-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x6016 : Shape := ⟨3, ![24, 1, 6016]⟩
abbrev S24x1x1 : Shape := ⟨3, ![24, 1, 1]⟩
abbrev S3968x6016 : Shape := ⟨2, ![3968, 6016]⟩
abbrev S3968 : Shape := ⟨1, ![3968]⟩
abbrev S24x6016 : Shape := ⟨2, ![24, 6016]⟩
abbrev S1x24 : Shape := ⟨2, ![1, 24]⟩
abbrev S24x3968 : Shape := ⟨2, ![24, 3968]⟩
abbrev S24 : Shape := ⟨1, ![24]⟩
abbrev S1 : Shape := ⟨1, ![1]⟩
abbrev S_ : Shape := ⟨0, ![]⟩
abbrev S3968x256 : Shape := ⟨2, ![3968, 256]⟩
abbrev S3968x128 : Shape := ⟨2, ![3968, 128]⟩
abbrev S24x256 : Shape := ⟨2, ![24, 256]⟩
abbrev S24x128 : Shape := ⟨2, ![24, 128]⟩
abbrev S24x1 : Shape := ⟨2, ![24, 1]⟩
abbrev S1x3968 : Shape := ⟨2, ![1, 3968]⟩
abbrev S24x1x3968 : Shape := ⟨3, ![24, 1, 3968]⟩

abbrev nBuf : Space → Nat
  | .hbm => 8
  | .vmem => 5
  | .smem => 0
  | _ => 0

abbrev bufTy : (tb : Table) → Fin (tcTables nBuf tb) → BufTy
  | .hbm, ⟨0, _⟩ => ⟨S24x1x6016, .fp8e4m3⟩
  | .hbm, ⟨1, _⟩ => ⟨S24x1x1, .f32⟩
  | .hbm, ⟨2, _⟩ => ⟨S3968x6016, .fp8e4m3⟩
  | .hbm, ⟨3, _⟩ => ⟨S3968, .f32⟩
  | .hbm, ⟨4, _⟩ => ⟨S24x6016, .fp8e4m3⟩
  | .hbm, ⟨5, _⟩ => ⟨S1x24, .f32⟩
  | .hbm, ⟨6, _⟩ => ⟨S24x3968, .bf16⟩
  | .hbm, ⟨7, _⟩ => ⟨S24x1x3968, .bf16⟩
  | .local _ .vmem, ⟨0, _⟩ => ⟨S24x6016, .fp8e4m3⟩
  | .local _ .vmem, ⟨1, _⟩ => ⟨S1x24, .f32⟩
  | .local _ .vmem, ⟨2, _⟩ => ⟨S3968, .f32⟩
  | .local _ .vmem, ⟨3, _⟩ => ⟨S24x3968, .bf16⟩
  | .local _ .vmem, ⟨4, _⟩ => ⟨S3968x6016, .fp8e4m3⟩
  | _, _ => ⟨S24x1x6016, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x6016 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3968 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S24x1x6016 : Shape := ⟨3, ![24, 1, 6016]⟩
abbrev S24x1x1 : Shape := ⟨3, ![24, 1, 1]⟩
abbrev S3968x6016 : Shape := ⟨2, ![3968, 6016]⟩
abbrev S3968 : Shape := ⟨1, ![3968]⟩
abbrev S24x6016 : Shape := ⟨2, ![24, 6016]⟩
abbrev S24x3968 : Shape := ⟨2, ![24, 3968]⟩
abbrev S24x1x3968 : Shape := ⟨3, ![24, 1, 3968]⟩
abbrev S1x1x3968 : Shape := ⟨3, ![1, 1, 3968]⟩

abbrev nBuf : Space → Nat
  | .hbm => 13
  | .vmem => 3
  | .smem => 0
  | _ => 0

abbrev bufTy : (tb : Table) → Fin (tcTables nBuf tb) → BufTy
  | .hbm, ⟨0, _⟩ => ⟨S24x1x6016, .fp8e4m3⟩
  | .hbm, ⟨1, _⟩ => ⟨S24x1x1, .f32⟩
  | .hbm, ⟨2, _⟩ => ⟨S3968x6016, .fp8e4m3⟩
  | .hbm, ⟨3, _⟩ => ⟨S3968, .f32⟩
  | .hbm, ⟨4, _⟩ => ⟨S24x6016, .fp8e4m3⟩
  | .hbm, ⟨5, _⟩ => ⟨S24x3968, .f32⟩
  | .hbm, ⟨6, _⟩ => ⟨S24x1x3968, .f32⟩
  | .hbm, ⟨7, _⟩ => ⟨S24x1x3968, .f32⟩
  | .hbm, ⟨8, _⟩ => ⟨S24x1x3968, .f32⟩
  | .hbm, ⟨9, _⟩ => ⟨S1x1x3968, .f32⟩
  | .hbm, ⟨10, _⟩ => ⟨S24x1x3968, .f32⟩
  | .hbm, ⟨11, _⟩ => ⟨S24x1x3968, .f32⟩
  | .hbm, ⟨12, _⟩ => ⟨S24x1x3968, .bf16⟩
  | .local _ .vmem, ⟨0, _⟩ => ⟨S24x6016, .fp8e4m3⟩
  | .local _ .vmem, ⟨1, _⟩ => ⟨S3968x6016, .fp8e4m3⟩
  | .local _ .vmem, ⟨2, _⟩ => ⟨S24x3968, .f32⟩
  | _, _ => ⟨S24x1x6016, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24x6016 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3968x6016 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x3968 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.BitsRun.lean ====
/- The whole-body run of `Kernel`'s kernel: the body's triple, found by `sl_exec` over the generated skeleton.
   The kernel starts the copies of all 24 column chunks of the weights before it waits for the first one, so a chunk that
   lands is joined to a buffer from which up to 23 other windows are still out. That takes more steps and a larger budget
   than the executor's defaults, which is why the run stands here rather than in the generated frame. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue — `abstractNestedProofs` — walks it past the default budget)
set_option maxHeartbeats 4000000 in set_option sl_exec.rejoinFuel 64 in set_option sl_exec.rejoinHeartbeats 400000 in set_option sl_exec.dmaWindow true in set_option sl_exec.dmaWindowSet true in
/-- What the body's stores leave in the output's staging memref and in the scratch copy of the weights, as pieces (last
    first), with the proof that on whole staging memrefs (the inputs' at their contents, the output's and the scratch at
    anything, the weights' array at `fh0`, the body's DMA cells at zero) the body runs to the continuation that holds the
    inputs and the weights as they were, the cells at zero, and the output and the scratch with those pieces written. -/
noncomputable def kernelRun0_A (c : Dev nD) (arg0 : Memref sig .tc .vmem S24x6016 .fp8e4m3) (harg0 : arg0.IsWhole) (arg1 : Memref sig .tc .vmem S1x24 .f32) (harg1 : arg1.IsWhole) (arg3 : Memref sig .tc .vmem S3968 .f32) (harg3 : arg3.IsWhole) (arg4 : Memref sig .tc .vmem S24x3968 .bf16) (harg4 : arg4.IsWhole) (arg5 : Memref sig .tc .vmem S3968x6016 .fp8e4m3) (harg5 : arg5.IsWhole)
    (x0 : Vec F S24x6016 .fp8e4m3) (x1 : Vec F S1x24 .f32) (x2 : Vec F S3968 .f32) (fh0 : HbBuf0 (F := F) c hbM0_0) :
    Σ' (L3 : List (View.Piece (Elt F) S24x3968 .bf16)), { LT0 : List (View.Piece (Elt F) S3968x6016 .fp8e4m3) //
      ∀ (W : Waits sig Unit) (K : PUnit → sProp 𝕄),
        iprop(owns (c : Thread nD τ) arg0 fullShare x0 ∗ owns (c : Thread nD τ) arg1 fullShare x1 ∗ owns (c : Thread nD τ) arg3 fullShare x2 ∗ (∃ d, owns (c : Thread nD τ) arg4 fullShare d) ∗ (∃ d, owns (c : Thread nD τ) arg5 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ owes (c : Thread nD τ) 0 W
            ∗ (iprop(owns (c : Thread nD τ) arg0 fullShare x0 ∗ owns (c : Thread nD τ) arg1 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ (∃ W', owes (c : Thread nD τ) 0 W')) -∗ K ⟨⟩))
          ⊢ wp frame (wpE (defs₀ (F := F)) Variants.none c none) Set.univ (cc0__body arg0 harg0 arg1 harg1 (Memref.whole main_arg2) (Memref.isWhole_whole _) arg3 harg3 arg4 harg4 arg5 harg5 cc0_scratch1) K } := by
  refine ⟨?_, ?_, fun W K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg0.eq_unread hf0; obtain rfl := harg1.eq_unread hf1; obtain rfl := harg3.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg3.read_unread _
      iexact H2
    isplitl [H3]; · iexists _; iexact H3
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel.Body

end
-- ==== Proof.BitsFrame.lean ====
/- The frame of `Kernel`: what the output's staging buffer holds after the body, the pipeline's proof data, the body
   obligation from the whole-body run, the launch (`run_main`) and the frame claim (`frame`). -/
module

public import proofs.«01_k».proof.Proof.BitsRun
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 3 tile its block (1 store of `S24x3968`, checked by the kernel's evaluation: Lib/Ring.lean `Piece.tiledL`, linear in the pieces, through a loop's `@[irreducible]` trip theorem too), so they cover it. -/
theorem cover0_A_3 (c : Dev nD) (arg0 : Memref sig .tc .vmem S24x6016 .fp8e4m3) (harg0 : arg0.IsWhole) (arg1 : Memref sig .tc .vmem S1x24 .f32) (harg1 : arg1.IsWhole) (arg3 : Memref sig .tc .vmem S3968 .f32) (harg3 : arg3.IsWhole) (arg4 : Memref sig .tc .vmem S24x3968 .bf16) (harg4 : arg4.IsWhole) (arg5 : Memref sig .tc .vmem S3968x6016 .fp8e4m3) (harg5 : arg5.IsWhole)
    (x0 : Vec F S24x6016 .fp8e4m3) (x1 : Vec F S1x24 .f32) (x2 : Vec F S3968 .f32) (fh0 : HbBuf0 (F := F) c hbM0_0) (y : S24x3968.Idx) :
    ∃ pc ∈ (kernelRun0_A c arg0 harg0 arg1 harg1 arg3 harg3 arg4 harg4 arg5 harg5 x0 x1 x2 fh0).1, y ∈ pc.1.set :=
  View.cover_of_tiledL (kernelRun0_A c arg0 harg0 arg1 harg1 arg3 harg3 arg4 harg4 arg5 harg5 x0 x1 x2 fh0).1 S24x3968.size (by sl_kernel_rfl) y

/-- What the run leaves in output 3's staging buffer: its pieces read back over junk. -/
def out0_A_3 (c : Dev nD) (arg0 : Memref sig .tc .vmem S24x6016 .fp8e4m3) (harg0 : arg0.IsWhole) (arg1 : Memref sig .tc .vmem S1x24 .f32) (harg1 : arg1.IsWhole) (arg3 : Memref sig .tc .vmem S3968 .f32) (harg3 : arg3.IsWhole) (arg4 : Memref sig .tc .vmem S24x3968 .bf16) (harg4 : arg4.IsWhole) (arg5 : Memref sig .tc .vmem S3968x6016 .fp8e4m3) (harg5 : arg5.IsWhole)
    (x0 : Vec F S24x6016 .fp8e4m3) (x1 : Vec F S1x24 .f32) (x2 : Vec F S3968 .f32) (fh0 : HbBuf0 (F := F) c hbM0_0) : Vec F S24x3968 .bf16 :=
  VO0_3.read (Elt F) (VO0_3.writes (Elt F) VO0_3.junk (kernelRun0_A c arg0 harg0 arg1 harg1 arg3 harg3 arg4 harg4 arg5 harg5 x0 x1 x2 fh0).1)

/-! ## What the outputs hold after each point -/

/-- What the outputs' staging buffers hold after the body at point `t`: the run's contents at
    the point's memrefs and input blocks. -/
def outsAt0 (c : Dev nD) (t : Fin cfg0.N) : Vec F S24x3968 .bf16 :=
  out0_A_3 c (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (V m c main_arg2)

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_3
  iintro ⟨⟨HS0, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩⟩
  iapply ((kernelRun0_A c _ _ _ _ _ _ _ _ _ _ (iblk m c 0 t) (iblk m c 1 t) (iblk m c 2 t) (V m c main_arg2)).2.2 W _)
  isplitl [H0]; · iexact H0
  isplitl [H1]; · iexact H1
  isplitl [H2]; · iexact H2
  isplitl [H3]; · iexists _; iexact H3
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [HW]; · iexact HW
  iintro ⟨H0, H1, H2, ⟨%e3, H3⟩, ⟨%fT0, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
  isplitl [HS0 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
  · isplitl [HS0]
    · iexists _; unfold owns; iexists _; isplitr
      swap; · iexact HS0
      ipureintro; rfl
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    iexact Hh0
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim: the program terminates without fault, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.IdealRun.lean ====
/- The whole-body run of `KernelIdeal`'s kernel: the body's triple, found by `sl_exec` over the generated skeleton.
   The kernel starts the copies of all 24 column chunks of the weights before it waits for the first one, so a chunk that
   lands is joined to a buffer from which up to 23 other windows are still out. That takes more steps and a larger budget
   than the executor's defaults, which is why the run stands here rather than in the generated frame. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large: the definition's epilogue — `abstractNestedProofs` — walks it past the default budget)
set_option maxHeartbeats 4000000 in set_option sl_exec.rejoinFuel 64 in set_option sl_exec.rejoinHeartbeats 400000 in set_option sl_exec.dmaWindow true in set_option sl_exec.dmaWindowSet true in
/-- What the body's stores leave in the output's staging memref and in the scratch copy of the weights, as pieces (last
    first), with the proof that on whole staging memrefs (the inputs' at their contents, the output's and the scratch at
    anything, the weights' array at `fh0`, the body's DMA cells at zero) the body runs to the continuation that holds the
    inputs and the weights as they were, the cells at zero, and the output and the scratch with those pieces written. -/
noncomputable def kernelRun0_A (c : Dev nD) (arg0 : Memref sig .tc .vmem S24x6016 .fp8e4m3) (harg0 : arg0.IsWhole) (arg1 : Memref sig .tc .vmem S1x24 .f32) (harg1 : arg1.IsWhole) (arg3 : Memref sig .tc .vmem S3968 .f32) (harg3 : arg3.IsWhole) (arg4 : Memref sig .tc .vmem S24x3968 .bf16) (harg4 : arg4.IsWhole) (arg5 : Memref sig .tc .vmem S3968x6016 .fp8e4m3) (harg5 : arg5.IsWhole)
    (x0 : Vec F S24x6016 .fp8e4m3) (x1 : Vec F S1x24 .f32) (x2 : Vec F S3968 .f32) (fh0 : HbBuf0 (F := F) c hbM0_0) :
    Σ' (L3 : List (View.Piece (Elt F) S24x3968 .bf16)), { LT0 : List (View.Piece (Elt F) S3968x6016 .fp8e4m3) //
      ∀ (W : Waits sig Unit) (K : PUnit → sProp 𝕄),
        iprop(owns (c : Thread nD τ) arg0 fullShare x0 ∗ owns (c : Thread nD τ) arg1 fullShare x1 ∗ owns (c : Thread nD τ) arg3 fullShare x2 ∗ (∃ d, owns (c : Thread nD τ) arg4 fullShare d) ∗ (∃ d, owns (c : Thread nD τ) arg5 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ owes (c : Thread nD τ) 0 W
            ∗ (iprop(owns (c : Thread nD τ) arg0 fullShare x0 ∗ owns (c : Thread nD τ) arg1 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ (∃ W', owes (c : Thread nD τ) 0 W')) -∗ K ⟨⟩))
          ⊢ wp frame (wpE (defs₀ (F := F)) Variants.none c none) Set.univ (cc0__body arg0 harg0 arg1 harg1 (Memref.whole main_arg2) (Memref.isWhole_whole _) arg3 harg3 arg4 harg4 arg5 harg5 cc0_scratch1) K } := by
  refine ⟨?_, ?_, fun W K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg0.eq_unread hf0; obtain rfl := harg1.eq_unread hf1; obtain rfl := harg3.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg3.read_unread _
      iexact H2
    isplitl [H3]; · iexists _; iexact H3
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.KernelIdeal.Body

end
-- ==== Proof.IdealFrame.lean ====
/- The frame of `KernelIdeal`: what the output's staging buffer holds after the body, the pipeline's proof data, the body
   obligation from the whole-body run, the launch (`run_main`) and the frame claim (`frame`). -/
module

public import proofs.«01_k».proof.Proof.IdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 3 tile its block (1 store of `S24x3968`, checked by the kernel's evaluation: Lib/Ring.lean `Piece.tiledL`, linear in the pieces, through a loop's `@[irreducible]` trip theorem too), so they cover it. -/
theorem cover0_A_3 (c : Dev nD) (arg0 : Memref sig .tc .vmem S24x6016 .fp8e4m3) (harg0 : arg0.IsWhole) (arg1 : Memref sig .tc .vmem S1x24 .f32) (harg1 : arg1.IsWhole) (arg3 : Memref sig .tc .vmem S3968 .f32) (harg3 : arg3.IsWhole) (arg4 : Memref sig .tc .vmem S24x3968 .bf16) (harg4 : arg4.IsWhole) (arg5 : Memref sig .tc .vmem S3968x6016 .fp8e4m3) (harg5 : arg5.IsWhole)
    (x0 : Vec F S24x6016 .fp8e4m3) (x1 : Vec F S1x24 .f32) (x2 : Vec F S3968 .f32) (fh0 : HbBuf0 (F := F) c hbM0_0) (y : S24x3968.Idx) :
    ∃ pc ∈ (kernelRun0_A c arg0 harg0 arg1 harg1 arg3 harg3 arg4 harg4 arg5 harg5 x0 x1 x2 fh0).1, y ∈ pc.1.set :=
  View.cover_of_tiledL (kernelRun0_A c arg0 harg0 arg1 harg1 arg3 harg3 arg4 harg4 arg5 harg5 x0 x1 x2 fh0).1 S24x3968.size (by sl_kernel_rfl) y

/-- What the run leaves in output 3's staging buffer: its pieces read back over junk. -/
def out0_A_3 (c : Dev nD) (arg0 : Memref sig .tc .vmem S24x6016 .fp8e4m3) (harg0 : arg0.IsWhole) (arg1 : Memref sig .tc .vmem S1x24 .f32) (harg1 : arg1.IsWhole) (arg3 : Memref sig .tc .vmem S3968 .f32) (harg3 : arg3.IsWhole) (arg4 : Memref sig .tc .vmem S24x3968 .bf16) (harg4 : arg4.IsWhole) (arg5 : Memref sig .tc .vmem S3968x6016 .fp8e4m3) (harg5 : arg5.IsWhole)
    (x0 : Vec F S24x6016 .fp8e4m3) (x1 : Vec F S1x24 .f32) (x2 : Vec F S3968 .f32) (fh0 : HbBuf0 (F := F) c hbM0_0) : Vec F S24x3968 .bf16 :=
  VO0_3.read (Elt F) (VO0_3.writes (Elt F) VO0_3.junk (kernelRun0_A c arg0 harg0 arg1 harg1 arg3 harg3 arg4 harg4 arg5 harg5 x0 x1 x2 fh0).1)

/-! ## What the outputs hold after each point -/

/-- What the outputs' staging buffers hold after the body at point `t`: the run's contents at
    the point's memrefs and input blocks. -/
def outsAt0 (c : Dev nD) (t : Fin cfg0.N) : Vec F S24x3968 .bf16 :=
  out0_A_3 c (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (V m c main_arg2)

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_3
  iintro ⟨⟨HS0, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩⟩
  iapply ((kernelRun0_A c _ _ _ _ _ _ _ _ _ _ (iblk m c 0 t) (iblk m c 1 t) (iblk m c 2 t) (V m c main_arg2)).2.2 W _)
  isplitl [H0]; · iexact H0
  isplitl [H1]; · iexact H1
  isplitl [H2]; · iexact H2
  isplitl [H3]; · iexists _; iexact H3
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [HW]; · iexact HW
  iintro ⟨H0, H1, H2, ⟨%e3, H3⟩, ⟨%fT0, HS0⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
  isplitl [HS0 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
  · isplitl [HS0]
    · iexists _; unfold owns; iexists _; isplitr
      swap; · iexact HS0
      ipureintro; rfl
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    iexact Hh0
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim: the program terminates without fault, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Chunks.lean ====
/-
  Two facts about contracting a matrix product chunk by chunk, free of any program.

  `Filled`: a buffer written by adjacent column windows, each holding the same matrix's own columns, holds that matrix
  on every column written so far; so a load of any of those columns reads the matrix.

  `Upto`: an accumulator holding the products' sum over the first columns of the contraction, plus the product of the
  next window of columns, holds the sum over both.
-/
module

public import Idealize.ShloMosaic.Lib.Pipeline.FrameBody
public import Idealize.ShloMosaic.Lib.Pipeline.Value
public import Idealize.ShloMosaic.Lib.MatmulPlain
public import Idealize.ShloMosaic.Lib.WholeRead
public import Idealize.ShloMosaic.Lib.ValueIdx

@[expose] public section

noncomputable section

namespace Cert.Chunks

open Idealize.ShloMosaic Idealize.ShloMosaic.ValueIdx

section Filled

variable {Val : EltTy → Type} [∀ e, Nonempty (Val e)] {e : EltTy} {R K : ℕ}

/-- The writes `L` (last first) leave the matrix `W` on the columns below `n`. -/
def Filled (W : (⟨2, ![R, K]⟩ : Shape).Idx → Val e) (n : ℕ) (L : List (View.Piece Val (⟨2, ![R, K]⟩ : Shape) e)) : Prop :=
  ∀ y : (⟨2, ![R, K]⟩ : Shape).Idx, (y 1).val < n → View.canon L y = W y

/-- No column is below `0`. -/
theorem Filled.nil (W : (⟨2, ![R, K]⟩ : Shape).Idx → Val e) : Filled W 0 [] := fun _ h => absurd h (Nat.not_lt_zero _)

/-- Writing the next `w` columns, each with the matrix's own column, extends the filled part by `w` columns. -/
theorem Filled.cons {W : (⟨2, ![R, K]⟩ : Shape).Idx → Val e} {lo w n : ℕ} {L : List (View.Piece Val (⟨2, ![R, K]⟩ : Shape) e)}
    (inb : ∀ a, (![0, lo] : Fin 2 → ℕ) a + (![R, w] : Fin 2 → ℕ) a ≤ (![R, K] : Fin 2 → ℕ) a)
    {v : (Rect.unit (s := ⟨2, ![R, K]⟩) ![0, lo] ![R, w] inb).shape.Idx → Val e} (hn : n = lo + w)
    (hv : ∀ x, v x = W ((Rect.unit (s := ⟨2, ![R, K]⟩) ![0, lo] ![R, w] inb).emb x)) (h : Filled W lo L) :
    Filled W n (⟨Rect.unit (s := ⟨2, ![R, K]⟩) ![0, lo] ![R, w] inb, v⟩ :: L) := by
  intro y hy
  by_cases hm : y ∈ (Rect.unit (s := ⟨2, ![R, K]⟩) ![0, lo] ![R, w] inb).set
  · obtain ⟨x, hx⟩ : ∃ x, (Rect.unit (s := ⟨2, ![R, K]⟩) ![0, lo] ![R, w] inb).emb x = y :=
      LoadRect.exists_idx_of_mem _ hm
    rw [← hx, View.canon_cons_emb]
    exact hv x
  · refine (View.canon_cons_of_not_mem (⟨Rect.unit (s := ⟨2, ![R, K]⟩) ![0, lo] ![R, w] inb, v⟩ : View.Piece Val (⟨2, ![R, K]⟩ : Shape) e) L hm).trans (h y ?_)
    by_contra hlo
    refine hm ((Rect.mem_set_unit ..).2 fun a => ?_)
    match a with
    | ⟨0, _⟩ => exact ⟨Nat.zero_le _, by have := (y 0).isLt; show (y 0).val < 0 + R; simpa using this⟩
    | ⟨1, _⟩ => exact ⟨by show lo ≤ (y 1).val; omega, by show (y 1).val < lo + w; omega⟩

/-- A load of any box, after writes that filled every column with the matrix's own, reads the matrix there. -/
theorem Filled.load {W : (⟨2, ![R, K]⟩ : Shape).Idx → Val e} {L : List (View.Piece Val (⟨2, ![R, K]⟩ : Shape) e)} (h : Filled W K L)
    {sig : RefSig} {κ : Kind} {sp : Space} (v : View sig κ sp (⟨2, ![R, K]⟩ : Shape) e) (r : Rect (⟨2, ![R, K]⟩ : Shape)) :
    v.readCov L r.toLoadRect = View.ld W r := by
  rw [View.readCov_eq_canon']
  exact funext fun j => h _ (r.idx j 1).isLt

end Filled

/-! ## The sum, chunk by chunk -/

variable {M N K : ℕ}

/-- The accumulator `A` holds, at row `r` and column `c`, the sum of `x[r,k] · w[c,k]` over `k` below `n`. -/
def Upto (x : FVec Ideal ⟨2, ![M, K]⟩ .fp8e4m3) (w : FVec Ideal ⟨2, ![N, K]⟩ .fp8e4m3) (n : ℕ) (A : FVec Ideal ⟨2, ![M, N]⟩ .f32) : Prop :=
  ∀ r c, A (ix2 r c) = ∑ k ∈ Finset.range n, if h : k < K then x (ix2 r ⟨k, h⟩) * w (ix2 c ⟨k, h⟩) else 0

/-- The zero accumulator holds the empty sum. -/
theorem Upto.zero (x : FVec Ideal ⟨2, ![M, K]⟩ .fp8e4m3) (w : FVec Ideal ⟨2, ![N, K]⟩ .fp8e4m3) :
    Upto x w 0 (broadcast ⟨2, ![M, N]⟩ (Scalar.ofBits .f32 0x00000000#32)) := fun _ _ =>
  (Ideal.ofBits_zero_f32).trans (Finset.sum_range_zero _).symm

/-- Adding the product of the columns from `lo` to `lo + d` to a sum up to `lo` gives the sum up to `lo + d`. -/
theorem Upto.step {x : FVec Ideal ⟨2, ![M, K]⟩ .fp8e4m3} {w : FVec Ideal ⟨2, ![N, K]⟩ .fp8e4m3} {lo d n : ℕ}
    {A : FVec Ideal ⟨2, ![M, N]⟩ .f32} {xl : FVec Ideal ⟨2, ![M, d]⟩ .fp8e4m3} {wl : FVec Ideal ⟨2, ![N, d]⟩ .fp8e4m3}
    (hn : n = lo + d) (inbx : ∀ a, (![0, lo] : Fin 2 → ℕ) a + (![M, d] : Fin 2 → ℕ) a ≤ (![M, K] : Fin 2 → ℕ) a)
    (inbw : ∀ a, (![0, lo] : Fin 2 → ℕ) a + (![N, d] : Fin 2 → ℕ) a ≤ (![N, K] : Fin 2 → ℕ) a)
    (hx : xl = View.ld (Val := Elt Ideal) (e' := .fp8e4m3) x (Rect.unit (s := ⟨2, ![M, K]⟩) ![0, lo] ![M, d] inbx))
    (hw : wl = View.ld (Val := Elt Ideal) (e' := .fp8e4m3) w (Rect.unit (s := ⟨2, ![N, K]⟩) ![0, lo] ![N, d] inbw))
    (h : Upto x w lo A) :
    Upto x w n (addf A (matmul (DotDims.transposedRhs M d N) none xl wl (constant ⟨2, ![M, N]⟩ .f32 0x00000000#32))) := by
  intro r c
  have hK : lo + d ≤ K := inbx 1
  show A (ix2 r c) + FloatOps.matmul (DotDims.transposedRhs M d N) none xl wl (constant ⟨2, ![M, N]⟩ .f32 0x00000000#32) (ix2 r c) = _
  rw [Ideal.matmul_transposedRhs_apply, h r c, hn, Finset.sum_range_add, Finset.sum_range (n := d)]
  refine congrArg _ ?_
  have hz : constant (F := Ideal) ⟨2, ![M, N]⟩ .f32 0x00000000#32 (ix2 r c) = 0 := Ideal.ofBits_zero_f32
  rw [hz, zero_add]
  refine Finset.sum_congr rfl fun k _ => ?_
  rw [dif_pos (by have := k.isLt; omega : lo + k.val < K), hx, hw]
  have ex : (Rect.unit (s := ⟨2, ![M, K]⟩) ![0, lo] ![M, d] inbx).emb (ix2 r k) = ix2 r ⟨lo + k.val, by have := k.isLt; omega⟩ := by
    funext a; apply Fin.ext
    match a with
    | ⟨0, _⟩ => show 0 + 1 * r.val = r.val; omega
    | ⟨1, _⟩ => show lo + 1 * k.val = lo + k.val; omega
  have ew : (Rect.unit (s := ⟨2, ![N, K]⟩) ![0, lo] ![N, d] inbw).emb (ix2 c k) = ix2 c ⟨lo + k.val, by have := k.isLt; omega⟩ := by
    funext a; apply Fin.ext
    match a with
    | ⟨0, _⟩ => show 0 + 1 * c.val = c.val; omega
    | ⟨1, _⟩ => show lo + 1 * k.val = lo + k.val; omega
  exact congrArg₂ (· * ·) (congrArg x ex) (congrArg w ew)

/-- A sum up to the whole contraction is the matrix product's element. -/
theorem Upto.all {x : FVec Ideal ⟨2, ![M, K]⟩ .fp8e4m3} {w : FVec Ideal ⟨2, ![N, K]⟩ .fp8e4m3} {A : FVec Ideal ⟨2, ![M, N]⟩ .f32}
    (h : Upto x w K A) (r : Fin M) (c : Fin N) : A (ix2 r c) = ∑ k : Fin K, x (ix2 r k) * w (ix2 c k) := by
  rw [h r c, Finset.sum_range]
  exact Finset.sum_congr rfl fun k _ => dif_pos k.isLt

end Cert.Chunks

end

end
-- ==== Proof.KernelValue.lean ====
/-
  What the kernel's body leaves in its output block, at the ideal values: every element is the row's and the column's
  product over the whole contraction, times the row's scale, times the column's scale.
-/
module

public import proofs.«01_k».proof.Proof.IdealFrame
public import proofs.«01_k».proof.Proof.Chunks

@[expose] public section

set_option maxRecDepth 16384

noncomputable section

namespace Cert.KernelIdeal.Body

open Cert.KernelIdeal.Gen Cert.Chunks
open Idealize.ShloMosaic Idealize.ShloMosaic.TcCoe Idealize.ShloMosaic.Tactic Idealize.ShloMosaic.ValueIdx

section Weights

variable {F : FTy → Type} [FloatOps F]
variable (c : Dev nD) (fh0 : HbBuf0 (F := F) c hbM0_0)

/-- The weights matrix, as the whole HBM array reads. -/
abbrev weights : Vec F S3968x6016 .fp8e4m3 := (Memref.whole main_arg2).view.read (Elt F) fh0

/-- Everything the copies left in the scratch buffer, the last chunk first: the twenty-four column windows. -/
abbrev landed : List (View.Piece (Elt F) S3968x6016 .fp8e4m3) :=
  [⟨Rect.unit ![0, 5888] S3968x128.size inb_S3968x6016_S3968x128_0_5888, kernelRun0_A.sl.dma0_23 c fh0⟩,
   ⟨Rect.unit ![0, 5632] S3968x256.size inb_S3968x6016_S3968x256_0_5632, kernelRun0_A.sl.dma0_22 c fh0⟩,
   ⟨Rect.unit ![0, 5376] S3968x256.size inb_S3968x6016_S3968x256_0_5376, kernelRun0_A.sl.dma0_21 c fh0⟩,
   ⟨Rect.unit ![0, 5120] S3968x256.size inb_S3968x6016_S3968x256_0_5120, kernelRun0_A.sl.dma0_20 c fh0⟩,
   ⟨Rect.unit ![0, 4864] S3968x256.size inb_S3968x6016_S3968x256_0_4864, kernelRun0_A.sl.dma0_19 c fh0⟩,
   ⟨Rect.unit ![0, 4608] S3968x256.size inb_S3968x6016_S3968x256_0_4608, kernelRun0_A.sl.dma0_18 c fh0⟩,
   ⟨Rect.unit ![0, 4352] S3968x256.size inb_S3968x6016_S3968x256_0_4352, kernelRun0_A.sl.dma0_17 c fh0⟩,
   ⟨Rect.unit ![0, 4096] S3968x256.size inb_S3968x6016_S3968x256_0_4096, kernelRun0_A.sl.dma0_16 c fh0⟩,
   ⟨Rect.unit ![0, 3840] S3968x256.size inb_S3968x6016_S3968x256_0_3840, kernelRun0_A.sl.dma0_15 c fh0⟩,
   ⟨Rect.unit ![0, 3584] S3968x256.size inb_S3968x6016_S3968x256_0_3584, kernelRun0_A.sl.dma0_14 c fh0⟩,
   ⟨Rect.unit ![0, 3328] S3968x256.size inb_S3968x6016_S3968x256_0_3328, kernelRun0_A.sl.dma0_13 c fh0⟩,
   ⟨Rect.unit ![0, 3072] S3968x256.size inb_S3968x6016_S3968x256_0_3072, kernelRun0_A.sl.dma0_12 c fh0⟩,
   ⟨Rect.unit ![0, 2816] S3968x256.size inb_S3968x6016_S3968x256_0_2816, kernelRun0_A.sl.dma0_11 c fh0⟩,
   ⟨Rect.unit ![0, 2560] S3968x256.size inb_S3968x6016_S3968x256_0_2560, kernelRun0_A.sl.dma0_10 c fh0⟩,
   ⟨Rect.unit ![0, 2304] S3968x256.size inb_S3968x6016_S3968x256_0_2304, kernelRun0_A.sl.dma0_9 c fh0⟩,
   ⟨Rect.unit ![0, 2048] S3968x256.size inb_S3968x6016_S3968x256_0_2048, kernelRun0_A.sl.dma0_8 c fh0⟩,
   ⟨Rect.unit ![0, 1792] S3968x256.size inb_S3968x6016_S3968x256_0_1792, kernelRun0_A.sl.dma0_7 c fh0⟩,
   ⟨Rect.unit ![0, 1536] S3968x256.size inb_S3968x6016_S3968x256_0_1536, kernelRun0_A.sl.dma0_6 c fh0⟩,
   ⟨Rect.unit ![0, 1280] S3968x256.size inb_S3968x6016_S3968x256_0_1280, kernelRun0_A.sl.dma0_5 c fh0⟩,
   ⟨Rect.unit ![0, 1024] S3968x256.size inb_S3968x6016_S3968x256_0_1024, kernelRun0_A.sl.dma0_4 c fh0⟩,
   ⟨Rect.unit ![0, 768] S3968x256.size inb_S3968x6016_S3968x256_0_768, kernelRun0_A.sl.dma0_3 c fh0⟩,
   ⟨Rect.unit ![0, 512] S3968x256.size inb_S3968x6016_S3968x256_0_512, kernelRun0_A.sl.dma0_2 c fh0⟩,
   ⟨Rect.unit ![0, 256] S3968x256.size inb_S3968x6016_S3968x256_0_256, kernelRun0_A.sl.dma0_1 c fh0⟩,
   ⟨Rect.unit ![0, 0] S3968x256.size inb_S3968x6016_S3968x256_0_0, kernelRun0_A.sl.dma0 c fh0⟩]

/-- Together the copies fill the scratch buffer with the weights, column for column. -/
theorem landed_filled : Filled (Val := Elt F) (weights c fh0) 6016 (landed c fh0) := by
  repeat' first
    | exact Filled.nil _
    | refine Filled.cons _ (by rfl) (fun _ => rfl) ?_

/-- So a load of any columns of the scratch buffer reads the weights there. -/
theorem landed_load (arg5 : Memref sig .tc .vmem S3968x6016 .fp8e4m3) (r : Rect S3968x6016) :
    arg5.view.readCov (landed c fh0) r.toLoadRect = View.ld (weights c fh0) r :=
  (landed_filled c fh0).load arg5.view r

end Weights

section Value

variable (c : Dev nD)
  (arg0 : Memref sig .tc .vmem S24x6016 .fp8e4m3) (harg0 : arg0.IsWhole) (arg1 : Memref sig .tc .vmem S1x24 .f32) (harg1 : arg1.IsWhole)
  (arg3 : Memref sig .tc .vmem S3968 .f32) (harg3 : arg3.IsWhole) (arg4 : Memref sig .tc .vmem S24x3968 .bf16) (harg4 : arg4.IsWhole)
  (arg5 : Memref sig .tc .vmem S3968x6016 .fp8e4m3) (harg5 : arg5.IsWhole)
  (x0 : Vec Ideal S24x6016 .fp8e4m3) (x1 : Vec Ideal S1x24 .f32) (x2 : Vec Ideal S3968 .f32) (fh0 : HbBuf0 (F := Ideal) c hbM0_0)

/-- A load of the activations' staging buffer, cast to its own shape, reads the activations at the loaded columns. -/
theorem rows_load (lo d : ℕ) (inb : ∀ a, (![0, lo] : Fin 2 → ℕ) a + (![24, d] : Fin 2 → ℕ) a ≤ (![24, 6016] : Fin 2 → ℕ) a)
    (h : (⟨2, ![24, d]⟩ : Shape).ShapeCasts ⟨2, ![24, d]⟩) :
    shapeCast ⟨2, ![24, d]⟩ (View.readAt (Elt Ideal) arg0.view (Rect.unit (s := S24x6016) ![0, lo] ![24, d] inb).toLoadRect (harg0.unread x0)) h
      = View.ld x0 (Rect.unit (s := S24x6016) ![0, lo] ![24, d] inb) :=
  (shapeCast_self _ h).trans (funext fun j => harg0.readAt_unread x0 _ j)

/-- Before the last chunk the accumulator holds the sum over the first 5888 columns. -/
theorem acc_upto : Upto x0 (weights c fh0) 5888 (kernelRun0_A.sl.r_14 c arg0 harg0 arg5 x0 fh0) := by
  repeat' first
    | exact Upto.zero _ _
    | exact rows_load _ _ _ _ _ _ (by rfl)
    | exact landed_load ..
    | refine Upto.step (by rfl) (by decide) (by decide) ?_ ?_ ?_

/-- After the last chunk, 128 columns wide, it holds the sum over all 6016 columns. -/
theorem acc_all : Upto x0 (weights c fh0) 6016
    (addf (kernelRun0_A.sl.r_14 c arg0 harg0 arg5 x0 fh0)
      (matmul (φ₂ := .fp8e4m3) dot_S24x128_S3968x128_S24x3968_1_1_0_0_n_n none (kernelRun0_A.sl.r_15 c arg0 harg0 x0) (kernelRun0_A.sl.v310 c arg5 fh0)
        kernelRun0_A.sl.cst_99)) :=
  Upto.step (lo := 5888) (d := 128) (by rfl) (by decide) (by decide) (rows_load _ _ _ _ _ _ (by rfl)) (landed_load ..) (acc_upto c arg0 harg0 arg5 x0 fh0)

/-- The kernel's scaling: an accumulator's element times its row's scale times its column's scale; rounding to the
    result's type is the identity at the ideal values. -/
theorem scaled_apply (acc : FVec Ideal S24x3968 .f32) (v313 : Vec Ideal S1x24 .f32) (v316 : Vec Ideal S3968 .f32) (r : Fin 24) (k : Fin 3968) :
    truncf (F := Ideal) .bf16 (mulf (mulf acc
        (broadcastTo S24x3968 (transpose S24x1 [1, 0] (shapeCast S1x24 v313 shapeCasts_S1x24_S1x24) transposes_S1x24_p1_0_S24x1) broadcasts_S24x1_S24x3968))
        (broadcastTo S24x3968 (shapeCast S1x3968 v316 shapeCasts_S3968_S1x3968) broadcasts_S1x3968_S24x3968)) bitsLt_bf16_f32 (ix2 r k)
      = acc (ix2 r k) * v313 (ix2 0 r) * v316 (ix1 k) := by
  have e1 : broadcastTo S24x3968 (transpose S24x1 [1, 0] (shapeCast S1x24 v313 shapeCasts_S1x24_S1x24) transposes_S1x24_p1_0_S24x1)
      broadcasts_S24x1_S24x3968 (ix2 r k) = v313 (ix2 0 r) := by
    rw [shapeCast_self]
    refine (broadcastTo_apply _ _ _ (ix2 r 0) fun a => ?_).trans (transpose_apply _ _ _ _ (ix2 0 r) fun b => ?_)
    · match a with
      | ⟨0, _⟩ => rfl
      | ⟨1, _⟩ => rfl
    · match b with
      | ⟨0, _⟩ => rfl
      | ⟨1, _⟩ => rfl
  have e2 : broadcastTo S24x3968 (shapeCast S1x3968 v316 shapeCasts_S3968_S1x3968) broadcasts_S1x3968_S24x3968 (ix2 r k) = v316 (ix1 k) := by
    refine (broadcastTo_apply _ _ _ (ix2 0 k) fun a => ?_).trans (shapeCast_apply _ _ _ (ix1 k) ?_)
    · match a with
      | ⟨0, _⟩ => rfl
      | ⟨1, _⟩ => rfl
    · rw [Shape.rowMajor_val_two, Shape.rowMajor_val_one]
      show k.val = 0 * 3968 + k.val
      omega
  exact congrArg₂ (· * ·) (congrArg (acc (ix2 r k) * ·) e1) e2

/-- **The body's output block**: element `(r, k)` is the product of activation row `r` and weight row `k` over the whole
    contraction, times row `r`'s scale, times column `k`'s scale. -/
theorem out_apply (r : Fin 24) (k : Fin 3968) :
    out0_A_3 c arg0 harg0 arg1 harg1 arg3 harg3 arg4 harg4 arg5 harg5 x0 x1 x2 fh0 (ix2 r k)
      = (∑ j : Fin 6016, x0 (ix2 r j) * weights c fh0 (ix2 k j)) * x1 (ix2 0 r) * x2 (ix1 k) := by
  unfold out0_A_3
  rw [View.read_writes_junk_eq_canon]
  unfold kernelRun0_A
  dsimp only
  rw [View.canon_unit_zero (S := S24x3968) (funext fun a => by fin_cases a <;> rfl)]
  unfold k0_pay1
  dsimp only
  rw [scaled_apply, (acc_all c arg0 harg0 arg5 x0 fh0).all]
  simp only [View.readAt_eq_ld, harg1.read_unread, harg3.read_unread]
  rw [View.ld_unit_zero (S := S1x24) (funext fun a => by fin_cases a <;> rfl), View.ld_unit_zero (S := S3968) (funext fun a => by fin_cases a <;> rfl)]

end Value

end Cert.KernelIdeal.Body

end

end
-- ==== Proof.Spec.lean ====
/-
  The result both programs compute at the ideal values, and the three reshapes around it read at an index.
-/
module

public import Idealize.ShloMosaic.Lib.Pipeline.Value
public import Idealize.ShloMosaic.Lib.ValueIdx

@[expose] public section

noncomputable section

namespace Cert.Spec

open Idealize.ShloMosaic Idealize.ShloMosaic.ValueIdx

/-- The scaled linear layer: element `(b, 0, n)` is the product of activation row `b` and weight row `n` over all 6016
    columns, times row `b`'s scale, times column `n`'s scale. -/
def scaledLinear (x : FVec Ideal ⟨3, ![24, 1, 6016]⟩ .fp8e4m3) (xs : FVec Ideal ⟨3, ![24, 1, 1]⟩ .f32)
    (w : FVec Ideal ⟨2, ![3968, 6016]⟩ .fp8e4m3) (ws : FVec Ideal ⟨1, ![3968]⟩ .f32) : FVec Ideal ⟨3, ![24, 1, 3968]⟩ .bf16 :=
  fun i => (∑ k : Fin 6016, x (ix3 (i 0) 0 k) * w (ix2 (i 2) k)) * xs (ix3 (i 0) 0 0) * ws (ix1 (i 2))

/-- The scaled linear layer read at an index: the product of two rows, times the two scales. -/
theorem scaledLinear_eq (x : FVec Ideal ⟨3, ![24, 1, 6016]⟩ .fp8e4m3) (xs : FVec Ideal ⟨3, ![24, 1, 1]⟩ .f32)
    (w : FVec Ideal ⟨2, ![3968, 6016]⟩ .fp8e4m3) (ws : FVec Ideal ⟨1, ![3968]⟩ .f32) (i : (⟨3, ![24, 1, 3968]⟩ : Shape).Idx)
    (p a b : EReal) (hp : p = ∑ k : Fin 6016, x (ix3 (i 0) 0 k) * w (ix2 (i 2) k)) (ha : a = xs (ix3 (i 0) 0 0)) (hb : b = ws (ix1 (i 2))) :
    p * a * b = scaledLinear x xs w ws i :=
  congr (congrArg HMul.hMul (congr (congrArg HMul.hMul hp) ha)) hb

variable {α : Type}

/-- An `[a, 1, b]` array flattened to `[a, b]` reads, at `(r, k)`, the operand at `(r, 0, k)`. -/
theorem flatten_apply {a b : ℕ} (x : (⟨3, ![a, 1, b]⟩ : Shape).Idx → α) (h : (⟨3, ![a, 1, b]⟩ : Shape).ShapeCasts ⟨2, ![a, b]⟩)
    (r : Fin a) (k : Fin b) : shapeCast ⟨2, ![a, b]⟩ x h (ix2 r k) = x (ix3 r 0 k) :=
  shapeCast_apply x h _ _ (by
    rw [Shape.rowMajor_val_three, Shape.rowMajor_val_two]
    show (r.val * 1 + 0) * b + k.val = r.val * b + k.val
    rw [Nat.mul_one, Nat.add_zero])

/-- An `[a, b]` array with a unit axis put in the middle reads, at an index, the operand at its outer coordinates. -/
theorem unflatten_apply {a b : ℕ} (x : (⟨2, ![a, b]⟩ : Shape).Idx → α) (h : (⟨2, ![a, b]⟩ : Shape).ShapeCasts ⟨3, ![a, 1, b]⟩)
    (i : (⟨3, ![a, 1, b]⟩ : Shape).Idx) : shapeCast ⟨3, ![a, 1, b]⟩ x h i = x (ix2 (i 0) (i 2)) :=
  shapeCast_apply x h _ _ (by
    have h1 : (i 1).val = 0 := by have h := (i 1).isLt; change (i 1).val < 1 at h; omega
    rw [Shape.rowMajor_val_three, Shape.rowMajor_val_two]
    show (i 0).val * b + (i 2).val = ((i 0).val * 1 + (i 1).val) * b + (i 2).val
    rw [h1, Nat.mul_one, Nat.add_zero])

/-- An `[a, 1, 1]` column laid out as the row `[1, a]` reads, at `(0, r)`, the operand at `(r, 0, 0)`. -/
theorem rowOf_apply {a : ℕ} (x : (⟨3, ![a, 1, 1]⟩ : Shape).Idx → α) (h : (⟨3, ![a, 1, 1]⟩ : Shape).ShapeCasts ⟨2, ![1, a]⟩)
    (r : Fin a) : shapeCast ⟨2, ![1, a]⟩ x h (ix2 0 r) = x (ix3 r 0 0) :=
  shapeCast_apply x h _ _ (by
    rw [Shape.rowMajor_val_three, Shape.rowMajor_val_two]
    show (r.val * 1 + 0) * 1 + 0 = 0 * a + r.val
    omega)

end Cert.Spec

end

end
-- ==== Proof.KernelResult.lean ====
/-
  The kernel program's result array at the ideal values: its host reshapes, the one region, and the reshape after it
  leave the scaled linear layer of the four arguments.
-/
module

public import proofs.«01_k».proof.Proof.KernelValue
public import proofs.«01_k».proof.Proof.Spec
public import Idealize.ShloMosaic.Lib.StableHlo.Run

@[expose] public section

set_option maxRecDepth 16384

noncomputable section

namespace Cert.KernelIdeal.Body

open Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the activations flattened to one row per token, -/
theorem V_main_v0 (c : Dev nD) : V m c main_v0 = shapeCast S24x6016 (m ((c : Thread nD τ).loc main_arg0)) shapeCasts_S24x1x6016_S24x6016 := by
  show StableHlo.after hostOps0 _ (Proc.devRef .tc main_v0) = _
  after_results
  rfl

/-- and the row scales laid out as one row. -/
theorem V_main_v1 (c : Dev nD) : V m c main_v1 = shapeCast S1x24 (m ((c : Thread nD τ).loc main_arg1)) shapeCasts_S24x1x1_S1x24 := by
  show StableHlo.after hostOps0 _ (Proc.devRef .tc main_v1) = _
  after_results
  rfl

/-- The block of each input window is its whole array. -/
theorem iblk_eq (c : Dev nD) : iblk m c 0 t0_0 = V m c main_v0 ∧ iblk m c 1 t0_0 = V m c main_v1 ∧ iblk m c 2 t0_0 = V m c main_arg3 :=
  ⟨Memref.read_access_unit_zero (Elt Ideal) main_v0 (funext fun a => by fin_cases a <;> decide) _ _,
   Memref.read_access_unit_zero (Elt Ideal) main_v1 (funext fun a => by fin_cases a <;> decide) _ _,
   Memref.read_access_unit_zero (Elt Ideal) main_arg3 (funext fun a => by fin_cases a <;> decide) _ _⟩

/-- The region's output array ends holding the body's output block. -/
theorem final_out (c : Dev nD) : (dats m 0 c).arrAt 3 cfg0.N = outsAt0 m c t0_0 := by
  refine (dats m 0 c).arrAt_eq_of_cover 3 (outsAt0 m c t0_0) (fun t _ => ?_) fun i => ⟨t0_0, flush0_3 _, ?_⟩
  · obtain rfl := fin_N0 t
    show (cfg0.win 3).cut (grid0.coords t0_0) ((dats m 0 c).after 3 t0_0) = _
    rw [after0_3]
    exact (Memref.read_access_unit_zero (Elt Ideal) main_v2 (funext fun a => by fin_cases a <;> decide) _ (outsAt0 m c t0_0)).symm
  · show i ∈ ((View.whole main_v2).slice (win0_3.rect t0_0)).set
    rw [View.set_slice_whole, Rect.mem_set_unit]
    have e : ∀ a, win0_3.index t0_0 a * win0_3.size a = 0 ∧ win0_3.xsize (grid0.coords t0_0) a = S24x3968.size a := by
      decide +kernel
    intro a
    show win0_3.index t0_0 a * win0_3.size a ≤ (i a : Nat) ∧ (i a : Nat) < win0_3.index t0_0 a * win0_3.size a + win0_3.xsize (grid0.coords t0_0) a
    rw [(e a).1, (e a).2, Nat.zero_add]
    exact ⟨Nat.zero_le _, (i a).isLt⟩

/-- The program's result array ends as the reshape of the region's output array. -/
theorem tail_eq (c : Dev nD) : Pipeline.afterTail₀ cfgs (dats m) 0 (V0 m) [hostOps1] c main_v3
    = shapeCast S24x1x3968 (outsAt0 m c t0_0) shapeCasts_S24x3968_S24x1x3968 := by
  unfold Pipeline.afterTail₀
  show StableHlo.after hostOps1 _ (Proc.devRef .tc main_v3) = _
  after_results
  rw [← final_out m c]
  exact congrArg (fun X => shapeCast S24x1x3968 X shapeCasts_S24x3968_S24x1x3968)
    (Pipeline.withArrays_arr spec0 (by decide) c (V0 m c) (fun w => (dats m 0 c).arrAt w cfg0.N) 3)

/-- **The kernel's result array** is the scaled linear layer of the arguments. -/
theorem result_eq (c : Dev nD) : Pipeline.afterTail₀ cfgs (dats m) 0 (V0 m) [hostOps1] c main_v3
    = scaledLinear (m ((c : Thread nD τ).loc main_arg0)) (m ((c : Thread nD τ).loc main_arg1)) (m ((c : Thread nD τ).loc main_arg2))
        (m ((c : Thread nD τ).loc main_arg3)) := by
  rw [tail_eq]
  funext i
  rw [unflatten_apply]
  refine (out_apply ..).trans (scaledLinear_eq _ _ _ _ i _ _ _ ?_ ?_ ?_)
  · rw [(iblk_eq m c).1, V_main_v0, V_main_arg2]
    exact Finset.sum_congr rfl fun j _ => congrArg (fun X : EReal => X * _) (flatten_apply _ _ _ _)
  · rw [(iblk_eq m c).2.1, V_main_v1]
    exact rowOf_apply _ _ _
  · rw [(iblk_eq m c).2.2, V_main_arg3]

/-- The kernel program runs to the end with its result array at the scaled linear layer and its arguments unchanged. -/
theorem run_value : θ_run defs (onTc (τ := τ) (main (F := Ideal))) ⟨m, fun _ => 0, ρ⟩ (fun r => ∀ c : Dev nD,
      r.2.mem ((c.tc : Thread nD τ).loc main_v3)
        = scaledLinear (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v3 (Pipeline.mem_restRefs_of main_v3 (by decide) (by decide))).trans (result_eq m c), h.2 c⟩)
    (θ_run_and (run_main m ρ) (unchanged m ρ))

end Cert.KernelIdeal.Body

end

end
-- ==== Proof.ReferenceValue.lean ====
/-
  The reference program's result array at the ideal values: the product of its one region, scaled and reshaped on the
  host, is the scaled linear layer of the four arguments.
-/
module

public import proofs.«01_k».proof.Proof.Gen.ReferenceIdeal.Frame
public import proofs.«01_k».proof.Proof.Spec
public import Idealize.ShloMosaic.Lib.StableHlo.Run
public import Idealize.ShloMosaic.Lib.MatmulPlain
public import Idealize.ShloMosaic.Lib.Pipeline.Value

@[expose] public section

set_option maxRecDepth 16384

noncomputable section

namespace Cert.ReferenceIdeal.Gen

open Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the activations flattened to one row per token. -/
theorem V_main_v0 (c : Dev nD) : V m c main_v0 = shapeCast S24x6016 (m ((c : Thread nD τ).loc main_arg0)) shapeCasts_S24x1x6016_S24x6016 := by
  show StableHlo.after hostOps0 _ (Proc.devRef .tc main_v0) = _
  after_results
  rfl

/-- The block of each input window is its whole array. -/
theorem iblk_eq (c : Dev nD) : iblk m c 0 t0_0 = V m c main_v0 ∧ iblk m c 1 t0_0 = V m c main_arg2 :=
  ⟨Memref.read_access_unit_zero (Elt Ideal) main_v0 (funext fun a => by fin_cases a <;> decide) _ _,
   Memref.read_access_unit_zero (Elt Ideal) main_arg2 (funext fun a => by fin_cases a <;> decide) _ _⟩

/-- The body's output block at row `r` and column `k` is the sum over the contraction axis. -/
theorem out_apply (x0 : FVec Ideal S24x6016 .fp8e4m3) (x1 : FVec Ideal S3968x6016 .fp8e4m3) (r : Fin 24) (k : Fin 3968) :
    out0_2 (F := Ideal) x0 x1 (ix2 r k) = ∑ j : Fin 6016, x0 (ix2 r j) * x1 (ix2 k j) := by
  unfold out0_2
  rw [View.canon_unit_zero (funext fun a => by fin_cases a <;> decide), View.ld_unit_zero (funext fun a => by fin_cases a <;> decide),
    View.ld_unit_zero (funext fun a => by fin_cases a <;> decide)]
  show FloatOps.matmul (DotDims.transposedRhs 24 6016 3968) none (shapeCast S24x6016 x0 _) x1 (constant (F := Ideal) S24x3968 .f32 0) (ix2 r k) = _
  rw [shapeCast_self, Ideal.matmul_transposedRhs_apply]
  show Ideal.ofBits .f32 0#32 + _ = _
  rw [Ideal.ofBits_zero_f32, zero_add]

/-- The region's output array ends holding the body's output block. -/
theorem final_out (c : Dev nD) : (dats m 0 c).arrAt 2 cfg0.N = out0_2 (V m c main_v0) (V m c main_arg2) := by
  refine (dats m 0 c).arrAt_eq_of_cover 2 (out0_2 (V m c main_v0) (V m c main_arg2)) (fun t _ => ?_) fun i => ⟨t0_0, flush0_2 _, ?_⟩
  · obtain rfl := fin_N0 t
    show (cfg0.win 2).cut (grid0.coords t0_0) ((dats m 0 c).after 2 t0_0) = _
    rw [after0_2, (iblk_eq m c).1, (iblk_eq m c).2]
    exact (Memref.read_access_unit_zero (Elt Ideal) main_v1 (funext fun a => by fin_cases a <;> decide) _ (out0_2 (V m c main_v0) (V m c main_arg2))).symm
  · show i ∈ ((View.whole main_v1).slice (win0_2.rect t0_0)).set
    rw [View.set_slice_whole, Rect.mem_set_unit]
    have e : ∀ a, win0_2.index t0_0 a * win0_2.size a = 0 ∧ win0_2.xsize (grid0.coords t0_0) a = S24x3968.size a := by
      decide +kernel
    intro a
    show win0_2.index t0_0 a * win0_2.size a ≤ (i a : Nat) ∧ (i a : Nat) < win0_2.index t0_0 a * win0_2.size a + win0_2.xsize (grid0.coords t0_0) a
    rw [(e a).1, (e a).2, Nat.zero_add]
    exact ⟨Nat.zero_le _, (i a).isLt⟩

/-- The host operations after the region: the product `p` reshaped, scaled by the row scales `a` and the column scales
    `b`, and rounded to the result's format. -/
def scale (p : FVec Ideal S24x3968 .f32) (a : FVec Ideal S24x1x1 .f32) (b : FVec Ideal S3968 .f32) : FVec Ideal S24x1x3968 .bf16 :=
  truncf .bf16 (mulf (mulf (shapeCast S24x1x3968 p shapeCasts_S24x3968_S24x1x3968)
      (broadcastInDim S24x1x3968 ![0, 1, 2] bcast_S24x1x1_S24x1x3968_0_1_2 a))
    (broadcastInDim S24x1x3968 ![0, 1, 2] bcast_S1x1x3968_S24x1x3968_0_1_2 (broadcastInDim S1x1x3968 ![2] bcast_S3968_S1x1x3968_2 b)))

/-- Row scales spread over the result read, at an index, their row's scale, -/
theorem spread_rows (a : FVec Ideal S24x1x1 .f32) (i : S24x1x3968.Idx) :
    broadcastInDim S24x1x3968 ![0, 1, 2] bcast_S24x1x1_S24x1x3968_0_1_2 a i = a (ix3 (i 0) 0 0) :=
  broadcastInDim_apply ![0, 1, 2] bcast_S24x1x1_S24x1x3968_0_1_2 a i _ (fun d => by fin_cases d <;> rfl)

/-- and column scales spread over it their column's. -/
theorem spread_cols (b : FVec Ideal S3968 .f32) (i : S24x1x3968.Idx) :
    broadcastInDim S24x1x3968 ![0, 1, 2] bcast_S1x1x3968_S24x1x3968_0_1_2 (broadcastInDim S1x1x3968 ![2] bcast_S3968_S1x1x3968_2 b) i
      = b (ix1 (i 2)) :=
  (broadcastInDim_apply ![0, 1, 2] bcast_S1x1x3968_S24x1x3968_0_1_2 _ i (ix3 0 0 (i 2)) (fun d => by fin_cases d <;> rfl)).trans
    (broadcastInDim_apply ![2] bcast_S3968_S1x1x3968_2 b _ _ (fun d => by fin_cases d; rfl))

/-- The program's result array ends as the scaled product. -/
theorem tail_eq (c : Dev nD) : Pipeline.afterTail₀ cfgs (dats m) 0 (V0 m) [hostOps1] c main_v8
    = scale (out0_2 (V m c main_v0) (V m c main_arg2)) (m ((c : Thread nD τ).loc main_arg1)) (m ((c : Thread nD τ).loc main_arg3)) := by
  have h1 := Pipeline.withArrays_arr spec0 (by decide) c (V0 m c) (fun w => (dats m 0 c).arrAt w cfg0.N) 2
  have ha := Pipeline.withArrays_of_ne spec0 c (V0 m c) (fun w => (dats m 0 c).arrAt w cfg0.N) main_arg1
    (by exact (by decide : ∀ w, Pipeline.arrRef spec0 w ≠ main_arg1))
  have hb := Pipeline.withArrays_of_ne spec0 c (V0 m c) (fun w => (dats m 0 c).arrAt w cfg0.N) main_arg3
    (by exact (by decide : ∀ w, Pipeline.arrRef spec0 w ≠ main_arg3))
  unfold Pipeline.afterTail₀
  show StableHlo.after hostOps1 _ (Proc.devRef .tc main_v8) = _
  after_results
  refine Eq.trans (b := scale _ _ _) rfl ?_
  rw [← final_out m c, ← V_main_arg1 m c, ← V_main_arg3 m c]
  exact congr (congr (congrArg scale h1) ha) hb

/-- **The reference's result array** is the scaled linear layer of the arguments. -/
theorem result_eq (c : Dev nD) : Pipeline.afterTail₀ cfgs (dats m) 0 (V0 m) [hostOps1] c main_v8
    = scaledLinear (m ((c : Thread nD τ).loc main_arg0)) (m ((c : Thread nD τ).loc main_arg1)) (m ((c : Thread nD τ).loc main_arg2))
        (m ((c : Thread nD τ).loc main_arg3)) := by
  rw [tail_eq]
  funext i
  refine scaledLinear_eq _ _ _ _ i _ _ _ ?_ (spread_rows _ i) (spread_cols _ i)
  refine (unflatten_apply _ _ i).trans ((out_apply _ _ _ _).trans ?_)
  rw [V_main_v0, V_main_arg2]
  exact Finset.sum_congr rfl fun j _ => congrArg (fun X : EReal => X * _) (flatten_apply _ _ _ _)

/-- The reference program runs to the end with its result array at the scaled linear layer and its arguments unchanged. -/
theorem run_value : θ_run defs (onTc (τ := τ) (main (F := Ideal))) ⟨m, fun _ => 0, ρ⟩ (fun r => ∀ c : Dev nD,
      r.2.mem ((c.tc : Thread nD τ).loc main_v8)
        = scaledLinear (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v8 (Pipeline.mem_restRefs_of main_v8 (by decide) (by decide))).trans (result_eq m c), h.2 c⟩)
    (θ_run_and (run_main m ρ) (unchanged m ρ))

end Cert.ReferenceIdeal.Gen

end

end
-- ==== Proof.lean ====
/-
  The certificate: the three programs run, the kernel's idealization is the kernel's own text, and at the ideal values
  the kernel and the reference return the same array.
-/
module

public import proofs.«01_k».proof.Defs
public import proofs.«01_k».proof.Proof.BitsFrame
public import proofs.«01_k».proof.Proof.KernelResult
public import proofs.«01_k».proof.Proof.ReferenceValue

@[expose] public section

noncomputable section

namespace Cert.Proof

open Idealize.ShloMosaic Idealize.SL.Sem

/-- From launches that agree on the arguments both programs end with their result arrays at the scaled linear layer of
    those arguments, and with the arguments unchanged. -/
theorem algebraic [Cert.KernelIdeal.Facts] [Cert.ReferenceIdeal.Facts] : algebraic_KernelIdeal_ReferenceIdeal := by
  intro m g m' g' _ heq
  refine ⟨fun c => Cert.Spec.scaledLinear _ _ _ _, Cert.KernelIdeal.Body.run_value m g, ?_⟩
  refine (θ_run _ _ _).mono (fun r h c => ⟨?_, (h c).2⟩) (Cert.ReferenceIdeal.Gen.run_value m' g')
  obtain ⟨e0, e1, e2, e3⟩ := heq c
  refine (h c).1.trans ?_
  rw [e0, e1, e2, e3]

theorem claim : Cert.Claim := ⟨Cert.Kernel.Gen.facts, Cert.KernelIdeal.Gen.facts, Cert.ReferenceIdeal.Gen.facts,
  fun m g _ => Cert.Kernel.Body.frame m g, fun m g _ => Cert.KernelIdeal.Body.frame m g, fun m g _ => Cert.ReferenceIdeal.Gen.frame m g,
  trivial, algebraic⟩

end Cert.Proof

end
